-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S4x2048x128 : S_.BroadcastsInDim S4x2048x128 (![] : Fin 0 → Fin S4x2048x128.rank)
  bcast_S_S128x128 : S_.BroadcastsInDim S128x128 (![] : Fin 0 → Fin S128x128.rank)
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)

variable [Facts]

def fn_part1 {F : FTy → Type} [FloatOps F] (main_arg7 : FVec F S64x128 .f32) (main_v2 : IVec S4x2048x128 1) (main_v5 : IVec S128x128 1) (main_v8 : IVec S128 1) (main_v11 : IVec S128x128 1) (main_v14 : IVec S64x128 1) (main_v17 : IVec S64 1) : IVec S4x2048x128 1 × IVec S128x128 1 × IVec S128 1 × IVec S128x128 1 × IVec S64x128 1 × IVec S64 1 × IVec S64x128 1 :=
  let main_v18 : FVec F S64x128 .f32 := Host.absf main_arg7
  let main_cst_5 : FVec F S_ .f32 := constant S_ .f32 0x7F800000#32
  let main_v19 : FVec F S64x128 .f32 := broadcastInDim S64x128 ![] bcast_S_S64x128 main_cst_5
  let main_v20 : IVec S64x128 1 := cmpf .olt main_v18 main_v19
  (main_v2, main_v5, main_v8, main_v11, main_v14, main_v17, main_v20)

def fn {F : FTy → Type} [FloatOps F] (main_arg0 : FVec F S4x2048x128 .f32) (main_arg1 : IVec S4x2048x2048 32) (main_arg2 : FVec F S128x128 .f32) (main_arg3 : FVec F S128 .f32) (main_arg4 : FVec F S128x128 .f32) (main_arg5 : FVec F S64x128 .f32) (main_arg6 : FVec F S64 .f32) (main_arg7 : FVec F S64x128 .f32) : IVec S4x2048x128 1 × IVec S128x128 1 × IVec S128 1 × IVec S128x128 1 × IVec S64x128 1 × IVec S64 1 × IVec S64x128 1 :=
  let main_v0 : FVec F S4x2048x128 .f32 := Host.absf main_arg0
  let main_cst : FVec F S_ .f32 := constant S_ .f32 0x7F800000#32
  let main_v1 : FVec F S4x2048x128 .f32 := broadcastInDim S4x2048x128 ![] bcast_S_S4x2048x128 main_cst
  let main_v2 : IVec S4x2048x128 1 := cmpf .olt main_v0 main_v1
  let main_v3 : FVec F S128x128 .f32 := Host.absf main_arg2
  let main_cst_0 : FVec F S_ .f32 := constant S_ .f32 0x7F800000#32
  let main_v4 : FVec F S128x128 .f32 := broadcastInDim S128x128 ![] bcast_S_S128x128 main_cst_0
  let main_v5 : IVec S128x128 1 := cmpf .olt main_v3 main_v4
  let main_v6 : FVec F S128 .f32 := Host.absf main_arg3
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_v12 : FVec F S64x128 .f32 := Host.absf main_arg5
  let main_cst_3 : FVec F S_ .f32 := constant S_ .f32 0x7F800000#32
  let main_v13 : FVec F S64x128 .f32 := broadcastInDim S64x128 ![] bcast_S_S64x128 main_cst_3
  let main_v14 : IVec S64x128 1 := cmpf .olt main_v12 main_v13
  let main_v15 : FVec F S64 .f32 := Host.absf main_arg6
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg7 main_v2 main_v5 main_v8 main_v11 main_v14 main_v17
-- ==== Kernel.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S64x128 : Shape := ⟨2, ![64, 128]⟩
abbrev S64 : Shape := ⟨1, ![64]⟩
abbrev S4x128x2048 : Shape := ⟨3, ![4, 128, 2048]⟩
abbrev S128x256 : Shape := ⟨2, ![128, 256]⟩
abbrev S64x256 : Shape := ⟨2, ![64, 256]⟩
abbrev S128x1 : Shape := ⟨2, ![128, 1]⟩
abbrev S1x64 : Shape := ⟨2, ![1, 64]⟩
abbrev S4x2048x64 : Shape := ⟨3, ![4, 2048, 64]⟩
abbrev S1x2048x2048 : Shape := ⟨3, ![1, 2048, 2048]⟩
abbrev S1x128x2048 : Shape := ⟨3, ![1, 128, 2048]⟩
abbrev S1x2048x64 : Shape := ⟨3, ![1, 2048, 64]⟩
abbrev S2048x2048 : Shape := ⟨2, ![2048, 2048]⟩
abbrev S8x2048 : Shape := ⟨2, ![8, 2048]⟩
abbrev S1x2048 : Shape := ⟨2, ![1, 2048]⟩
abbrev S128x2048 : Shape := ⟨2, ![128, 2048]⟩
abbrev S256x2048 : Shape := ⟨2, ![256, 2048]⟩
abbrev S2048x64 : Shape := ⟨2, ![2048, 64]⟩
abbrev S2048 : Shape := ⟨1, ![2048]⟩
abbrev S2048x1 : Shape := ⟨2, ![2048, 1]⟩

abbrev nBuf : Space → Nat
  | .hbm => 18
  | .vmem => 12
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S4x128x2048, .f32⟩
  | .hbm, ⟨9, _⟩ => ⟨S4x128x2048, .bf16⟩
  | .hbm, ⟨10, _⟩ => ⟨S128x256, .f32⟩
  | .hbm, ⟨11, _⟩ => ⟨S128x256, .bf16⟩
  | .hbm, ⟨12, _⟩ => ⟨S64x256, .f32⟩
  | .hbm, ⟨13, _⟩ => ⟨S64x256, .bf16⟩
  | .hbm, ⟨14, _⟩ => ⟨S128x1, .f32⟩
  | .hbm, ⟨15, _⟩ => ⟨S1x64, .f32⟩
  | .hbm, ⟨16, _⟩ => ⟨S4x2048x64, .f32⟩
  | .hbm, ⟨17, _⟩ => ⟨S4x2048x64, .f32⟩
  | .local _ .vmem, ⟨0, _⟩ => ⟨S1x2048x2048, .i32⟩
  | .local _ .vmem, ⟨1, _⟩ => ⟨S1x2048x2048, .i32⟩
  | .local _ .vmem, ⟨2, _⟩ => ⟨S1x128x2048, .bf16⟩
  | .local _ .vmem, ⟨3, _⟩ => ⟨S1x128x2048, .bf16⟩
  | .local _ .vmem, ⟨4, _⟩ => ⟨S128x256, .bf16⟩
  | .local _ .vmem, ⟨5, _⟩ => ⟨S128x1, .f32⟩
  | .local _ .vmem, ⟨6, _⟩ => ⟨S64x256, .bf16⟩
  | .local _ .vmem, ⟨7, _⟩ => ⟨S1x64, .f32⟩
  | .local _ .vmem, ⟨8, _⟩ => ⟨S1x2048x64, .f32⟩
  | .local _ .vmem, ⟨9, _⟩ => ⟨S1x2048x64, .f32⟩
  | .local _ .vmem, ⟨10, _⟩ => ⟨S1x2048x64, .f32⟩
  | .local _ .vmem, ⟨11, _⟩ => ⟨S1x2048x64, .f32⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2048x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x2048x128 : Shape := ⟨3, ![4, 2048, 128]⟩
abbrev S4x2048x2048 : Shape := ⟨3, ![4, 2048, 2048]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S4x2048 : Shape := ⟨2, ![4, 2048]⟩
abbrev S4x2048x1 : Shape := ⟨3, ![4, 2048, 1]⟩
abbrev S1x1x128 : Shape := ⟨3, ![1, 1, 128]⟩
abbrev S128x64 : Shape := ⟨2, ![128, 64]⟩
abbrev S4x2048x64 : Shape := ⟨3, ![4, 2048, 64]⟩
abbrev S1x1x64 : Shape := ⟨3, ![1, 1, 64]⟩

abbrev nBuf : Space → Nat
  | .hbm => 78
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S4x2048x2048, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S64x128, .f32⟩
  | .hbm, ⟨6, _⟩ => ⟨S64, .f32⟩
  | .hbm, ⟨7, _⟩ => ⟨S64x128, .f32⟩
  | .hbm, ⟨8, _⟩ => ⟨S_, .i32⟩
  | .hbm, ⟨9, _⟩ => ⟨S4x2048x2048, .i32⟩
  | .hbm, ⟨10, _⟩ => ⟨S4x2048x2048, .i1⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S4x2048x128, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .i1⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x128, .f32⟩
  | .hbm, ⟨23, _⟩ => ⟨S4x2048x128, .f32⟩
  | .hbm, ⟨24, _⟩ => ⟨S_, .f32⟩
  | .hbm, ⟨25, _⟩ => ⟨S_, .f32⟩
  | .hbm, ⟨26, _⟩ => ⟨S4x2048x128, .i1⟩
  | .hbm, ⟨27, _⟩ => ⟨S4x2048x128, .f32⟩
  | .hbm, ⟨28, _⟩ => ⟨S4x2048x128, .f32⟩
  | .hbm, ⟨29, _⟩ => ⟨S128x128, .f32⟩
  | .hbm, ⟨30, _⟩ => ⟨S4x2048x128, .f32⟩
  | .hbm, ⟨31, _⟩ => ⟨S1x1x128, .f32⟩
  | .hbm, ⟨32, _⟩ => ⟨S4x2048x128, .f32⟩
  | .hbm, ⟨33, _⟩ => ⟨S4x2048x128, .f32⟩
  | .hbm, ⟨34, _⟩ => ⟨S128x128, .f32⟩
  | .hbm, ⟨35, _⟩ => ⟨S4x2048x128, .f32⟩
  | .hbm, ⟨36, _⟩ => ⟨S4x2048x128, .f32⟩
  | .hbm, ⟨37, _⟩ => ⟨S_, .f32⟩
  | .hbm, ⟨38, _⟩ => ⟨S4x2048x128, .f32⟩
  | .hbm, ⟨39, _⟩ => ⟨S4x2048x128, .f32⟩
  | .hbm, ⟨40, _⟩ => ⟨S4x2048x128, .f32⟩
  | .hbm, ⟨41, _⟩ => ⟨S4x2048x1, .f32⟩
  | .hbm, ⟨42, _⟩ => ⟨S_, .f32⟩
  | .hbm, ⟨43, _⟩ => ⟨S4x2048x1, .f32⟩
  | .hbm, ⟨44, _⟩ => ⟨S4x2048x1, .i1⟩
  | .hbm, ⟨45, _⟩ => ⟨S_, .f32⟩
  | .hbm, ⟨46, _⟩ => ⟨S4x2048x1, .f32⟩
  | .hbm, ⟨47, _⟩ => ⟨S4x2048x1, .f32⟩
  | .hbm, ⟨48, _⟩ => ⟨S4x2048x128, .f32⟩
  | .hbm, ⟨49, _⟩ => ⟨S4x2048x128, .f32⟩
  | .hbm, ⟨50, _⟩ => ⟨S_, .f32⟩
  | .hbm, ⟨51, _⟩ => ⟨S_, .f32⟩
  | .hbm, ⟨52, _⟩ => ⟨S4x2048x128, .i1⟩
  | .hbm, ⟨53, _⟩ => ⟨S4x2048x128, .f32⟩
  | .hbm, ⟨54, _⟩ => ⟨S4x2048x128, .f32⟩
  | .hbm, ⟨55, _⟩ => ⟨S128x64, .f32⟩
  | .hbm, ⟨56, _⟩ => ⟨S4x2048x64, .f32⟩
  | .hbm, ⟨57, _⟩ => ⟨S1x1x64, .f32⟩
  | .hbm, ⟨58, _⟩ => ⟨S4x2048x64, .f32⟩
  | .hbm, ⟨59, _⟩ => ⟨S4x2048x64, .f32⟩
  | .hbm, ⟨60, _⟩ => ⟨S128x64, .f32⟩
  | .hbm, ⟨61, _⟩ => ⟨S4x2048x64, .f32⟩
  | .hbm, ⟨62, _⟩ => ⟨S4x2048x64, .f32⟩
  | .hbm, ⟨63, _⟩ => ⟨S_, .f32⟩
  | .hbm, ⟨64, _⟩ => ⟨S4x2048, .f32⟩
  | .hbm, ⟨65, _⟩ => ⟨S_, .f32⟩
  | .hbm, ⟨66, _⟩ => ⟨S4x2048, .f32⟩
  | .hbm, ⟨67, _⟩ => ⟨S4x2048, .f32⟩
  | .hbm, ⟨68, _⟩ => ⟨S4x2048x1, .f32⟩
  | .hbm, ⟨69, _⟩ => ⟨S4x2048x64, .f32⟩
  | .hbm, ⟨70, _⟩ => ⟨S4x2048x64, .f32⟩
  | .hbm, ⟨71, _⟩ => ⟨S4x2048x64, .f32⟩
  | .hbm, ⟨72, _⟩ => ⟨S_, .f32⟩
  | .hbm, ⟨73, _⟩ => ⟨S4x2048, .f32⟩
  | .hbm, ⟨74, _⟩ => ⟨S4x2048x1, .f32⟩
  | .hbm, ⟨75, _⟩ => ⟨S4x2048x1, .f32⟩
  | .hbm, ⟨76, _⟩ => ⟨S4x2048x64, .f32⟩
  | .hbm, ⟨77, _⟩ => ⟨S4x2048x64, .f32⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_call1_cst : Ref sig .tc := ⟨.hbm, 37, rfl⟩
abbrev main_call1_v0 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_5 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v39 : Ref sig .tc := ⟨.hbm, 77, rfl⟩

abbrev nD : Nat := 1
abbrev τ : Topo := Topo.v7x

variable {F : FTy → Type} [FloatOps F]
-- ==== Proof.Spec.lean ====
/-
  The mathematics both programs compute, over coordinates and with no program named: a dense adjacency turned into a
  0/1 mask, the mean over a node's incoming edges, one graph-convolution layer, and the log-softmax of a row. Every
  value is an extended real. The lemmas here are what the two programs differ by: a mean taken by multiplying with a
  reciprocal instead of dividing, a bias added before or after the second product, and a row's logarithm taken off in
  one step or in two.
-/
module

public import Idealize.ShloMosaic.PureOps.Ideal.Laws
public import Idealize.ShloMosaic.Lib.ValueIdx

@[expose] public section

noncomputable section

namespace Sage

open Idealize.ShloMosaic
open scoped BigOperators

variable {n p q : ℕ}

/-- The mask entry of an adjacency word: one where the word is not zero, and zero where it is. -/
def edge (a : BitVec 32) : EReal := if a = 0#32 then 0 else 1

/-- The number of edges into node `j`. -/
def deg (M : Fin n → Fin n → EReal) (j : Fin n) : EReal := ∑ i, M i j

/-- The mean of feature `k` over the edges into node `j`, and zero for a node without one. -/
def mean (M : Fin n → Fin n → EReal) (X : Fin n → Fin p → EReal) (j : Fin n) (k : Fin p) : EReal :=
  if 0 < deg M j then Ideal.div (∑ i, M i j * X i k) (max (deg M j) 1) else 0

/-- One layer: the mean through `Wl`, plus the bias, plus the node's own features through `Wr`. -/
def conv (M : Fin n → Fin n → EReal) (X : Fin n → Fin p → EReal) (Wl Wr : Fin q → Fin p → EReal) (b : Fin q → EReal)
    (j : Fin n) (o : Fin q) : EReal :=
  (∑ k, mean M X j k * Wl o k + b o) + ∑ k, X j k * Wr o k

/-- The layer between: one convolution, cut off below at zero. -/
def hidden (M : Fin n → Fin n → EReal) (X : Fin n → Fin p → EReal) (Wl Wr : Fin q → Fin p → EReal) (b : Fin q → EReal)
    (j : Fin n) (o : Fin q) : EReal :=
  max (conv M X Wl Wr b j o) 0

/-- The reciprocal the kernel multiplies by: one over the degree, and zero for a node with no edge into it. -/
def inv (M : Fin n → Fin n → EReal) (j : Fin n) : EReal :=
  if 0 < deg M j then Ideal.div 1 (max (deg M j) 1) else 0

/-- The largest entry of a row. -/
def top (z : Fin q → EReal) : EReal := Finset.univ.fold max ⊥ z

/-- A row's log-softmax, the largest entry taken off first and the logarithm after it. -/
def logSoftmax (z : Fin q → EReal) (o : Fin q) : EReal :=
  (z o - top z) - Ideal.log (∑ k, Ideal.exp (z k - top z))

/-- The degree, at least one, is not zero. -/
theorem max_one_ne_zero (d : EReal) : max d 1 ≠ 0 :=
  ne_of_gt (lt_of_lt_of_le zero_lt_one (le_max_right d 1))

/-- The sum over the edges times the reciprocal is the mean. -/
theorem sum_mul_inv (M : Fin n → Fin n → EReal) (X : Fin n → Fin p → EReal) (j : Fin n) (k : Fin p) :
    (∑ i, X i k * M i j) * inv M j = mean M X j k := by
  unfold inv mean
  rw [Finset.sum_congr rfl fun i _ => mul_comm (X i k) (M i j)]
  split
  · unfold Ideal.div
    rw [if_neg (max_one_ne_zero _), if_neg (max_one_ne_zero _), one_mul]
  · exact mul_zero _

/-- A layer computed as one product over the mean and the features side by side, the bias added last. -/
theorem conv_eq (M : Fin n → Fin n → EReal) (X : Fin n → Fin p → EReal) (Wl Wr : Fin q → Fin p → EReal) (b : Fin q → EReal)
    (j : Fin n) (o : Fin q) :
    (∑ k, mean M X j k * Wl o k + ∑ k, X j k * Wr o k) + b o = conv M X Wl Wr b j o := by
  unfold conv
  exact add_right_comm _ _ _

/-! ## Finite values -/

/-- A finite value: one of the real numbers. -/
def IsReal (a : EReal) : Prop := ∃ r : ℝ, a = (r : EReal)

/-- Zero is finite. -/
theorem isReal_zero : IsReal 0 := ⟨0, rfl⟩
/-- One is finite. -/
theorem isReal_one : IsReal 1 := ⟨1, rfl⟩
/-- A sum of two finite values is finite. -/
theorem IsReal.add {a b : EReal} : IsReal a → IsReal b → IsReal (a + b)
  | ⟨r, hr⟩, ⟨s, hs⟩ => ⟨r + s, by rw [hr, hs, EReal.coe_add]⟩
/-- A product of two finite values is finite. -/
theorem IsReal.mul {a b : EReal} : IsReal a → IsReal b → IsReal (a * b)
  | ⟨r, hr⟩, ⟨s, hs⟩ => ⟨r * s, by rw [hr, hs, EReal.coe_mul]⟩
/-- The larger of two finite values is finite. -/
theorem IsReal.max {a b : EReal} (ha : IsReal a) (hb : IsReal b) : IsReal (max a b) := by
  rcases le_total a b with h | h
  · rwa [max_eq_right h]
  · rwa [max_eq_left h]
/-- The reciprocal of a finite value is finite. -/
theorem IsReal.inv {a : EReal} : IsReal a → IsReal a⁻¹
  | ⟨r, hr⟩ => ⟨r⁻¹, by rw [hr, EReal.coe_inv]⟩
/-- A finite sum of finite values is finite. -/
theorem isReal_sum {ι : Type} [Fintype ι] {f : ι → EReal} (h : ∀ i, IsReal (f i)) : IsReal (∑ i, f i) :=
  Finset.sum_induction f IsReal (fun _ _ => IsReal.add) isReal_zero fun i _ => h i
/-- A finite value is not the upper infinity. -/
theorem IsReal.ne_top {a : EReal} : IsReal a → a ≠ ⊤
  | ⟨r, hr⟩ => by rw [hr]; exact EReal.coe_ne_top r

/-- A mask entry is finite. -/
theorem isReal_edge (a : BitVec 32) : IsReal (edge a) := by
  unfold edge; split
  · exact isReal_zero
  · exact isReal_one

/-- The mean of finite features under a finite mask is finite. -/
theorem isReal_mean {M : Fin n → Fin n → EReal} {X : Fin n → Fin p → EReal} (hM : ∀ i j, IsReal (M i j))
    (hX : ∀ i k, IsReal (X i k)) (j : Fin n) (k : Fin p) : IsReal (mean M X j k) := by
  unfold mean; split
  · unfold Ideal.div
    rw [if_neg (max_one_ne_zero _)]
    exact (isReal_sum fun i => (hM i j).mul (hX i k)).mul ((isReal_sum fun i => hM i j).max isReal_one).inv
  · exact isReal_zero

/-- A layer of finite features, weights and bias is finite. -/
theorem isReal_conv {M : Fin n → Fin n → EReal} {X : Fin n → Fin p → EReal} {Wl Wr : Fin q → Fin p → EReal} {b : Fin q → EReal}
    (hM : ∀ i j, IsReal (M i j)) (hX : ∀ i k, IsReal (X i k)) (hL : ∀ o k, IsReal (Wl o k)) (hR : ∀ o k, IsReal (Wr o k))
    (hb : ∀ o, IsReal (b o)) (j : Fin n) (o : Fin q) : IsReal (conv M X Wl Wr b j o) :=
  ((isReal_sum fun k => (isReal_mean hM hX j k).mul (hL o k)).add (hb o)).add (isReal_sum fun k => (hX j k).mul (hR o k))

/-- The layer between is finite too. -/
theorem isReal_hidden {M : Fin n → Fin n → EReal} {X : Fin n → Fin p → EReal} {Wl Wr : Fin q → Fin p → EReal} {b : Fin q → EReal}
    (hM : ∀ i j, IsReal (M i j)) (hX : ∀ i k, IsReal (X i k)) (hL : ∀ o k, IsReal (Wl o k)) (hR : ∀ o k, IsReal (Wr o k))
    (hb : ∀ o, IsReal (b o)) (j : Fin n) (o : Fin q) : IsReal (hidden M X Wl Wr b j o) :=
  (isReal_conv hM hX hL hR hb j o).max isReal_zero

/-! ## The log-softmax -/

/-- Every entry of a row is at most the row's largest. -/
theorem le_top_row (z : Fin q → EReal) (o : Fin q) : z o ≤ top z :=
  (Finset.le_fold_max (z o)).2 (Or.inr ⟨o, Finset.mem_univ o, le_rfl⟩)

/-- Comparing the largest entry with the lower infinity once more changes nothing. -/
theorem bot_max_top (z : Fin q → EReal) : max ⊥ (top z) = top z := max_eq_right bot_le

/-- A row without the upper infinity has a largest entry other than it. -/
theorem top_ne_top {z : Fin q → EReal} (h : ∀ o, z o ≠ ⊤) : top z ≠ ⊤ :=
  ne_of_lt ((Finset.fold_max_lt ⊤).2 ⟨bot_lt_top, fun o _ => lt_top_iff_ne_top.2 (h o)⟩)

/-- Taking the logarithm and the largest entry off in one step is taking them off in two, on a row without the upper
    infinity. (With it, the one-step form is the upper infinity where the two-step form is the lower.) -/
theorem sub_log_add_top {z : Fin q → EReal} (h : ∀ o, z o ≠ ⊤) (o : Fin q) :
    z o - (Ideal.log (∑ k, Ideal.exp (z k - top z)) + top z) = logSoftmax z o := by
  unfold logSoftmax
  generalize Ideal.log (∑ k, Ideal.exp (z k - top z)) = L
  have ht := top_ne_top h
  have hle := le_top_row z o
  generalize top z = m at ht hle
  induction m with
  | bot =>
    rw [le_bot_iff.1 hle]
    simp [sub_eq_add_neg]
  | top => exact absurd rfl ht
  | coe r =>
    rw [sub_eq_add_neg, sub_eq_add_neg, sub_eq_add_neg,
      EReal.neg_add (Or.inr (EReal.coe_ne_top r)) (Or.inr (EReal.coe_ne_bot r)), sub_eq_add_neg, add_comm (-L), add_assoc]

/-! ## The two results from the eight argument arrays -/

section Arrays

open Idealize.ShloMosaic.ValueIdx

variable (x0 : (⟨3, ![4, 2048, 128]⟩ : Shape).Idx → EReal) (x1 : (⟨3, ![4, 2048, 2048]⟩ : Shape).Idx → BitVec 32)
  (x2 : (⟨2, ![128, 128]⟩ : Shape).Idx → EReal) (x3 : (⟨1, ![128]⟩ : Shape).Idx → EReal) (x4 : (⟨2, ![128, 128]⟩ : Shape).Idx → EReal)
  (x5 : (⟨2, ![64, 128]⟩ : Shape).Idx → EReal) (x6 : (⟨1, ![64]⟩ : Shape).Idx → EReal) (x7 : (⟨2, ![64, 128]⟩ : Shape).Idx → EReal)

/-- The mask of graph `n`. -/
def maskOf (n : Fin 4) (i j : Fin 2048) : EReal := edge (x1 (ix3 n i j))

/-- The hidden features of graph `n`. -/
def hiddenOf (n : Fin 4) : Fin 2048 → Fin 128 → EReal :=
  hidden (maskOf x1 n) (fun i k => x0 (ix3 n i k)) (fun o k => x2 (ix2 o k)) (fun o k => x4 (ix2 o k)) (fun o => x3 (ix1 o))

/-- The second result before the softmax: the class scores of graph `n`. -/
def outOf (n : Fin 4) : Fin 2048 → Fin 64 → EReal :=
  conv (maskOf x1 n) (hiddenOf x0 x1 x2 x3 x4 n) (fun o k => x5 (ix2 o k)) (fun o k => x7 (ix2 o k)) (fun o => x6 (ix1 o))

/-- Finite arguments give finite class scores. -/
theorem isReal_outOf (h0 : ∀ i, IsReal (x0 i)) (h2 : ∀ i, IsReal (x2 i)) (h3 : ∀ i, IsReal (x3 i)) (h4 : ∀ i, IsReal (x4 i))
    (h5 : ∀ i, IsReal (x5 i)) (h6 : ∀ i, IsReal (x6 i)) (h7 : ∀ i, IsReal (x7 i)) (n : Fin 4) (j : Fin 2048) (o : Fin 64) :
    IsReal (outOf x0 x1 x2 x3 x4 x5 x6 x7 n j o) :=
  isReal_conv (fun _ _ => isReal_edge _)
    (isReal_hidden (fun _ _ => isReal_edge _) (fun _ _ => h0 _) (fun _ _ => h2 _) (fun _ _ => h4 _) (fun _ => h3 _))
    (fun _ _ => h5 _) (fun _ _ => h7 _) (fun _ => h6 _) j o

end Arrays

end Sage

end
-- ==== Proof.KernelBlock.lean ====
/-
  What the kernel's body leaves in one block, read element by element as the layers of `Spec.lean`. The body keeps the
  features transposed (feature by node), stacks the mean on top of the features, and multiplies by the two weight
  matrices side by side; an element of each of its arrays is an element of the layer it holds.
-/
module

public import proofs.«01_k».proof.Proof.Spec
public import proofs.«01_k».proof.Proof.Gen.KernelIdeal.Value
public import Idealize.ShloMosaic.Lib.MatmulPlain
public import Idealize.ShloMosaic.Lib.ValueIdx

@[expose] public section

noncomputable section

namespace Cert.KernelIdeal.Block

open Cert.KernelIdeal Cert.KernelIdeal.Gen Cert.KernelIdeal.Value Idealize.ShloMosaic Idealize.ShloMosaic.ValueIdx
open scoped BigOperators

/-- The word of `1.0` in f32 is one. -/
theorem one_f32 : Ideal.ofBits .f32 0x3F800000#32 = 1 := by
  simp [Ideal.ofBits, Ideal.ieee, -EReal.coe_mul]; norm_num

/-- The word of `1.0` in bf16 is one. -/
theorem one_bf16 : Ideal.ofBits .bf16 0x3F80#16 = 1 := by
  simp [Ideal.ofBits, Ideal.ieee, -EReal.coe_mul]; norm_num

/-- The word of `-∞` in f32 is the lower infinity. -/
theorem neg_inf_f32 : Ideal.ofBits .f32 0xFF800000#32 = ⊥ := by
  simp [Ideal.ofBits, Ideal.ieee]

/-- The mask entry the kernel forms of a word. -/
theorem mask_word (a : BitVec 32) :
    (FloatOps.sitofp .f32 ((IntOp.cmpi .ne a 0#32).setWidth 32) : Ideal .f32) = Sage.edge a := by
  unfold Sage.edge
  by_cases h : a = 0#32
  · subst h; rw [if_pos rfl]
    show ((((IntOp.cmpi .ne 0#32 0#32).setWidth 32).toInt : ℝ) : EReal) = 0
    have : ((IntOp.cmpi .ne 0#32 0#32).setWidth 32).toInt = 0 := by decide
    rw [this]; norm_num
  · rw [if_neg h]
    have e : IntOp.cmpi .ne a 0#32 = 1#1 := by
      show BitVec.ofBool (a != 0#32) = 1#1
      rw [show (a != 0#32) = true from bne_iff_ne.2 h]; rfl
    rw [e]
    show ((((1#1 : BitVec 1).setWidth 32).toInt : ℝ) : EReal) = 1
    have : ((1#1 : BitVec 1).setWidth 32).toInt = 1 := by decide
    rw [this]; norm_num

/-- The mask at source `i` and destination `j`. -/
theorem pay4_apply (P0 : Vec Ideal S1x2048x2048 .i32) (i j : Fin 2048) :
    k0_pay4 P0 (ix2 i j) = Sage.edge (P0 (ix3 0 i j)) := by
  rw [← mask_word]
  unfold k0_pay4
  show (FloatOps.sitofp .f32 ((IntOp.cmpi .ne (shapeCast S2048x2048 P0 shapeCasts_S1x2048x2048_S2048x2048 (ix2 i j)) 0#32).setWidth 32) : Ideal .f32) = _
  rw [shapeCast_apply P0 _ (ix2 i j) (ix3 0 i j) (by
    rw [Shape.rowMajor_val_two, Shape.rowMajor_val_three]; show (0 * 2048 + i.val) * 2048 + j.val = i.val * 2048 + j.val; omega)]

variable (P0 : Vec Ideal S1x2048x2048 .i32) (P1 : Vec Ideal S1x128x2048 .bf16) (P2 : Vec Ideal S128x256 .bf16)
  (P3 : Vec Ideal S128x1 .f32) (P4 : Vec Ideal S64x256 .bf16) (P5 : Vec Ideal S1x64 .f32)

/-- The block's mask, as a function of source and destination. -/
abbrev mask (i j : Fin 2048) : EReal := Sage.edge (P0 (ix3 0 i j))

/-- The reciprocal of the degree of node `j`. -/
theorem pay5_apply (j : Fin 2048) : k0_pay5 P0 (ix2 0 j) = Sage.inv (mask P0) j := by
  have hd : extractStridedSlice S1x2048 ![0, 0] (matmul dot_S8x2048_S2048x2048_S8x2048_1_0_0_1_n_n none
      (broadcast S8x2048 (Scalar.ofBits .bf16 0x3F80#16 : Ideal .bf16)) (k0_pay4 P0) (constant S8x2048 .f32 0x00000000#32)) slices_S8x2048_o0_0_S1x2048
      (ix2 0 j) = Sage.deg (mask P0) j := by
    rw [extractStridedSlice_apply _ _ _ (ix2 0 j) (ix2 0 j) (fun a => by match a with | ⟨0, _⟩ => rfl | ⟨1, _⟩ => show j.val = 0 + j.val; omega)]
    refine (Ideal.matmul_plain_apply (M := 8) (K := 2048) (N := 2048) none _ _ _ 0 j).trans ?_
    show Ideal.ofBits .f32 0x00000000#32 + ∑ k : Fin 2048, Ideal.ofBits .bf16 0x3F80#16 * k0_pay4 P0 (ix2 k j) = _
    rw [Ideal.ofBits_zero_f32, zero_add, one_bf16]
    exact Finset.sum_congr rfl fun k _ => by rw [one_mul, pay4_apply]
  unfold k0_pay5
  rw [select_apply, cmpf_apply, divf_apply, maximumf_apply, hd]
  show Scalar.select (Ideal.cmp .ogt (Sage.deg (mask P0) j) (Ideal.ofBits .f32 0x00000000#32)) (Ideal.div (Ideal.ofBits .f32 0x3F800000#32)
    (max (Sage.deg (mask P0) j) (Ideal.ofBits .f32 0x3F800000#32))) (Ideal.ofBits .f32 0x00000000#32) = _
  rw [Ideal.ofBits_zero_f32, one_f32]
  unfold Sage.inv
  by_cases h : 0 < Sage.deg (mask P0) j
  · simp [Ideal.cmp, h, Scalar.select]
  · simp [Ideal.cmp, h, Scalar.select]

/-- A sum over 256 positions is the sum over the first 128 plus the sum over the last 128. -/
theorem sum_256 (f : Fin 256 → EReal) (g h : Fin 128 → EReal) (hg : ∀ k : Fin 128, f ⟨k.val, by omega⟩ = g k)
    (hh : ∀ k : Fin 128, f ⟨128 + k.val, by omega⟩ = h k) : ∑ k, f k = ∑ k, g k + ∑ k, h k := by
  rw [Fin.sum_univ_add (a := 128) (b := 128) f]
  exact congrArg₂ (· + ·) (Finset.sum_congr rfl fun k _ => hg k) (Finset.sum_congr rfl fun k _ => hh k)

/-- The upper half of two arrays stacked. -/
theorem stack_upper (a b : FVec Ideal S128x2048 .bf16) (k : Fin 128) (j : Fin 2048) :
    concatenate S256x2048 0 [⟨S128x2048, a⟩, ⟨S128x2048, b⟩] concatenates_S128x2048_S128x2048_S256x2048_d0 (ix2 ⟨k.val, by omega⟩ j) = a (ix2 k j) :=
  concatenate_pair_apply_left (t := S256x2048) (s₁ := S128x2048) (s₂ := S128x2048) 0 a b _ _ rfl (ix2 k j) fun d => by match d with | ⟨0, _⟩ => rfl | ⟨1, _⟩ => rfl

/-- The lower half of two arrays stacked. -/
theorem stack_lower (a b : FVec Ideal S128x2048 .bf16) (k : Fin 128) (j : Fin 2048) :
    concatenate S256x2048 0 [⟨S128x2048, a⟩, ⟨S128x2048, b⟩] concatenates_S128x2048_S128x2048_S256x2048_d0 (ix2 ⟨128 + k.val, by omega⟩ j) = b (ix2 k j) :=
  concatenate_pair_apply_right (t := S256x2048) (s₁ := S128x2048) (s₂ := S128x2048) 0 a b _ _ rfl rfl (ix2 k j)
    (fun d hd => by match d with | ⟨0, _⟩ => exact absurd rfl hd | ⟨1, _⟩ => rfl) (by show k.val + 128 = 128 + k.val; omega)

/-- The reciprocal row repeated for every feature. -/
theorem inv_row (v : FVec Ideal S1x2048 .f32) (k : Fin 128) (j : Fin 2048) :
    broadcastTo S128x2048 v broadcasts_S1x2048_S128x2048 (ix2 k j) = v (ix2 0 j) :=
  broadcastTo_apply v _ _ (ix2 0 j) fun a => by
    match a with
    | ⟨0, _⟩ => show 0 = if (1 : Nat) = 1 then 0 else k.val; rw [if_pos rfl]
    | ⟨1, _⟩ => show j.val = if (2048 : Nat) = 1 then 0 else j.val; rw [if_neg (by decide)]

/-- The mean of a transposed feature array, as the body forms it: the product with the mask, times the reciprocal row. -/
theorem mean_apply (T : FVec Ideal S128x2048 .bf16) (X : Fin 2048 → Fin 128 → EReal) (hT : ∀ k i, T (ix2 k i) = X i k)
    (k : Fin 128) (j : Fin 2048) :
    mulf (matmul dot_S128x2048_S2048x2048_S128x2048_1_0_0_1_n_n none T (k0_pay4 P0) (constant S128x2048 .f32 0x00000000#32))
      (broadcastTo S128x2048 (k0_pay5 P0) broadcasts_S1x2048_S128x2048) (ix2 k j) = Sage.mean (mask P0) X j k := by
  show matmul dot_S128x2048_S2048x2048_S128x2048_1_0_0_1_n_n none T (k0_pay4 P0) (constant S128x2048 .f32 0x00000000#32) (ix2 k j)
      * broadcastTo S128x2048 (k0_pay5 P0) broadcasts_S1x2048_S128x2048 (ix2 k j) = _
  rw [inv_row, pay5_apply, ← Sage.sum_mul_inv]
  refine congrArg (· * _) ((Ideal.matmul_plain_apply (M := 128) (K := 2048) (N := 2048) none _ _ _ k j).trans ?_)
  show Ideal.ofBits .f32 0x00000000#32 + _ = _
  rw [Ideal.ofBits_zero_f32, zero_add]
  exact Finset.sum_congr rfl fun i _ => by rw [hT, pay4_apply]

section Layers

variable {X : Fin 2048 → Fin 128 → EReal} {W1l W1r : Fin 128 → Fin 128 → EReal} {b1 : Fin 128 → EReal}
  {W2l W2r : Fin 64 → Fin 128 → EReal} {b2 : Fin 64 → EReal}
  (hX : ∀ k i, P1 (ix3 0 k i) = X i k)
  (hW1l : ∀ (o k : Fin 128), P2 (ix2 o ⟨k.val, by omega⟩) = W1l o k) (hW1r : ∀ (o k : Fin 128), P2 (ix2 o ⟨128 + k.val, by omega⟩) = W1r o k)
  (hb1 : ∀ o, P3 (ix2 o 0) = b1 o)
  (hW2l : ∀ (o : Fin 64) (k : Fin 128), P4 (ix2 o ⟨k.val, by omega⟩) = W2l o k)
  (hW2r : ∀ (o : Fin 64) (k : Fin 128), P4 (ix2 o ⟨128 + k.val, by omega⟩) = W2r o k)
  (hb2 : ∀ o, P5 (ix2 0 o) = b2 o)

include hX in
/-- The features with the block's leading unit axis dropped. -/
theorem feat_apply (k : Fin 128) (i : Fin 2048) : shapeCast S128x2048 P1 shapeCasts_S1x128x2048_S128x2048 (ix2 k i) = X i k := by
  rw [shapeCast_apply P1 _ (ix2 k i) (ix3 0 k i) (by
    rw [Shape.rowMajor_val_two, Shape.rowMajor_val_three]; show (0 * 128 + k.val) * 2048 + i.val = k.val * 2048 + i.val; omega), hX]

include hX hW1l hW1r hb1 in
/-- The layer between, transposed: hidden feature `o` of node `j`. -/
theorem pay6_apply (o : Fin 128) (j : Fin 2048) :
    k0_pay6 P0 P1 P2 P3 (ix2 o j) = Sage.hidden (mask P0) X W1l W1r b1 j o := by
  unfold Sage.hidden
  rw [← Sage.conv_eq]
  unfold k0_pay6
  rw [shapeCast_self, shapeCast_self]
  refine congrArg₂ max (congrArg₂ (· + ·) ?_ ?_) Ideal.ofBits_zero_f32
  · refine (Ideal.matmul_plain_apply (M := 128) (K := 256) (N := 2048) none _ _ _ o j).trans ?_
    show Ideal.ofBits .f32 0x00000000#32 + _ = _
    rw [Ideal.ofBits_zero_f32, zero_add]
    refine sum_256 _ _ _ (fun k => ?_) (fun k => ?_)
    · rw [stack_upper, hW1l, mul_comm]
      exact congrArg (· * _) (mean_apply P0 _ X (feat_apply P1 hX) k j)
    · rw [stack_lower, hW1r, feat_apply P1 hX, mul_comm]
  · rw [broadcastTo_apply P3 _ _ (ix2 o 0) fun a => by
      match a with
      | ⟨0, _⟩ => show o.val = if (128 : Nat) = 1 then 0 else o.val; rw [if_neg (by decide)]
      | ⟨1, _⟩ => show 0 = if (1 : Nat) = 1 then 0 else j.val; rw [if_pos rfl]]
    exact hb1 o

include hX hW1l hW1r hb1 in
/-- The mean of the layer between, transposed. -/
theorem pay7_apply (k : Fin 128) (j : Fin 2048) :
    k0_pay7 P0 P1 P2 P3 (ix2 k j) = Sage.mean (mask P0) (Sage.hidden (mask P0) X W1l W1r b1) j k :=
  mean_apply P0 (k0_pay6 P0 P1 P2 P3) _ (fun k i => pay6_apply P0 P1 P2 P3 hX hW1l hW1r hb1 k i) k j

/-- The body's last product at node `j` and class `o`: it contracts the stacked array's rows with the weights' columns. -/
theorem last_product (L : FVec Ideal S256x2048 .bf16) (R : FVec Ideal S64x256 .bf16) (j : Fin 2048) (o : Fin 64) :
    matmul dot_S256x2048_S64x256_S2048x64_0_1_1_0_n_n none L R (constant S2048x64 .f32 0x00000000#32) (ix2 j o)
      = ∑ k : Fin 256, L (ix2 k j) * R (ix2 o k) := by
  rw [matmul, Ideal.matmul_constant_zero_apply,
    ← Equiv.sum_comp (contrEquiv1 dot_S256x2048_S64x256_S2048x64_0_1_1_0_n_n 256 rfl rfl).symm]
  refine Finset.sum_congr rfl fun k _ => ?_
  have hk := contrEquiv1_symm_val dot_S256x2048_S64x256_S2048x64_0_1_1_0_n_n 256 rfl rfl k
  refine congrArg₂ (fun a b => L a * R b) (funext fun a => Fin.ext ?_) (funext fun a => Fin.ext ?_)
  · match a with
    | ⟨0, _⟩ => exact hk
    | ⟨1, _⟩ => rfl
  · match a with
    | ⟨0, _⟩ => rfl
    | ⟨1, _⟩ => exact hk

include hX hW1l hW1r hb1 hW2l hW2r hb2 in
/-- The second layer: class `o` of node `j`. -/
theorem pay1_apply (j : Fin 2048) (o : Fin 64) :
    k0_pay1 (k0_pay6 P0 P1 P2 P3) (k0_pay7 P0 P1 P2 P3) P4 P5 (ix2 j o)
      = Sage.conv (mask P0) (Sage.hidden (mask P0) X W1l W1r b1) W2l W2r b2 j o := by
  rw [← Sage.conv_eq]
  unfold k0_pay1
  rw [shapeCast_self, shapeCast_self]
  refine congrArg₂ (· + ·) ?_ ?_
  · rw [last_product]
    refine sum_256 _ _ _ (fun k => ?_) (fun k => ?_)
    · rw [stack_upper, hW2l]
      exact congrArg (· * _) (pay7_apply P0 P1 P2 P3 hX hW1l hW1r hb1 k j)
    · rw [stack_lower, hW2r, pay6_apply P0 P1 P2 P3 hX hW1l hW1r hb1]
  · rw [broadcastTo_apply P5 _ _ (ix2 0 o) fun a => by
      match a with
      | ⟨0, _⟩ => show 0 = if (1 : Nat) = 1 then 0 else j.val; rw [if_pos rfl]
      | ⟨1, _⟩ => show o.val = if (64 : Nat) = 1 then 0 else o.val; rw [if_neg (by decide)]]
    exact hb2 o

end Layers

/-! ## The log-softmax of the block -/

/-- The largest entry of row `j`. -/
theorem rowMax_apply (Z : FVec Ideal S2048x64 .f32) (z : Fin 2048 → Fin 64 → EReal) (hZ : ∀ j o, Z (ix2 j o) = z j o) (j : Fin 2048) :
    multiReduction .maximumf [1] S2048 Z 0xFF800000#32 reduces_S2048x64_S2048 (.inl rfl) rfl (ix1 j) = Sage.top (z j) := by
  refine (Ideal.multiReduction_maximumf_single Z _ _ _ _ (ix1 j)).trans ?_
  refine congrArg₂ (fun b f => (Finset.univ : Finset (Fin 64)).fold max b f) neg_inf_f32 (funext fun o : Fin 64 => ?_)
  refine Eq.trans ?_ (hZ j o)
  exact congrArg Z (funext fun a => by match a with | ⟨0, _⟩ => rfl | ⟨1, _⟩ => rfl)

/-- A row's value repeated along the row. -/
theorem rep_apply (v : FVec Ideal S2048 .f32) (j : Fin 2048) (o : Fin 64) :
    broadcastTo S2048x64 (shapeCast S2048x1 v shapeCasts_S2048_S2048x1) broadcasts_S2048x1_S2048x64 (ix2 j o) = v (ix1 j) := by
  rw [broadcastTo_apply _ _ _ (ix2 j 0) fun a => by
    match a with
    | ⟨0, _⟩ => show j.val = if (2048 : Nat) = 1 then 0 else j.val; rw [if_neg (by decide)]
    | ⟨1, _⟩ => show 0 = if (1 : Nat) = 1 then 0 else o.val; rw [if_pos rfl]]
  exact shapeCast_apply v _ _ (ix1 j) (by rw [Shape.rowMajor_val_one, Shape.rowMajor_val_two]; show j.val = j.val * 1 + 0; omega)

/-- The sum of the exponentials of row `j`, its largest entry taken off. -/
theorem rowSum_apply (Z : FVec Ideal S2048x64 .f32) (z : Fin 2048 → Fin 64 → EReal) (hZ : ∀ j o, Z (ix2 j o) = z j o) (j : Fin 2048) :
    multiReduction .add [1] S2048 (exp (subf Z (broadcastTo S2048x64 (shapeCast S2048x1
      (multiReduction .maximumf [1] S2048 Z 0xFF800000#32 reduces_S2048x64_S2048 (.inl rfl) rfl) shapeCasts_S2048_S2048x1) broadcasts_S2048x1_S2048x64)))
      0x00000000#32 reduces_S2048x64_S2048 (.inl rfl) rfl (ix1 j) = ∑ o, Ideal.exp (z j o - Sage.top (z j)) := by
  refine (Ideal.multiReduction_add_single _ _ _ _ _ (ix1 j)).trans ?_
  show ∑ o : Fin 64, _ = ∑ o : Fin 64, _
  refine Finset.sum_congr rfl fun (o : Fin 64) _ => ?_
  have e : reduces_S2048x64_S2048.lift (ix1 j) o = ix2 j o := funext fun a => by match a with | ⟨0, _⟩ => rfl | ⟨1, _⟩ => rfl
  rw [e]
  show Ideal.exp (Z (ix2 j o) - broadcastTo S2048x64 (shapeCast S2048x1
      (multiReduction .maximumf [1] S2048 Z 0xFF800000#32 reduces_S2048x64_S2048 (.inl rfl) rfl) shapeCasts_S2048_S2048x1) broadcasts_S2048x1_S2048x64 (ix2 j o)) = _
  rw [rep_apply, rowMax_apply Z z hZ, hZ]

end Cert.KernelIdeal.Block

end
-- ==== Proof.KernelValue.lean ====
/-
  The kernel's two result arrays, element by element: graph `n`'s block is written once, by grid point `n`, from the
  blocks of the arguments at that point. The arrays the host lays out before the kernel (the transposed features, the
  weights side by side, the biases with a unit axis) are read back to the arguments.
-/
module

public import proofs.«01_k».proof.Proof.KernelBlock
public import Idealize.ShloMosaic.Lib.StableHlo.Run

@[expose] public section

set_option maxRecDepth 16384

noncomputable section

namespace Cert.KernelIdeal.Arrays

open Cert.KernelIdeal Cert.KernelIdeal.Gen Cert.KernelIdeal.Value Cert.KernelIdeal.Block
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-- Feature array as launched. -/
abbrev a0 : S4x2048x128.Idx → EReal := m ((c : Thread nD τ).loc main_arg0)
/-- Adjacency array as launched. -/
abbrev a1 : S4x2048x2048.Idx → BitVec 32 := m ((c : Thread nD τ).loc main_arg1)
/-- First layer's mean weights as launched. -/
abbrev a2 : S128x128.Idx → EReal := m ((c : Thread nD τ).loc main_arg2)
/-- First layer's bias as launched. -/
abbrev a3 : S128.Idx → EReal := m ((c : Thread nD τ).loc main_arg3)
/-- First layer's own weights as launched. -/
abbrev a4 : S128x128.Idx → EReal := m ((c : Thread nD τ).loc main_arg4)
/-- Second layer's mean weights as launched. -/
abbrev a5 : S64x128.Idx → EReal := m ((c : Thread nD τ).loc main_arg5)
/-- Second layer's bias as launched. -/
abbrev a6 : S64.Idx → EReal := m ((c : Thread nD τ).loc main_arg6)
/-- Second layer's own weights as launched. -/
abbrev a7 : S64x128.Idx → EReal := m ((c : Thread nD τ).loc main_arg7)

/-- The class scores of the launched arguments. -/
abbrev scores (n : Fin 4) : Fin 2048 → Fin 64 → EReal :=
  Sage.outOf (a0 m c) (a1 m c) (a2 m c) (a3 m c) (a4 m c) (a5 m c) (a6 m c) (a7 m c) n

/-! ## What the host lays out -/

/-- The transposed features. -/
theorem V_feat (n : Fin 4) (k : Fin 128) (i : Fin 2048) : V m c main_v1 (ix3 n k i) = a0 m c (ix3 n i k) := by
  have e : V m c main_v1 = truncf (F := Ideal) .bf16 (transpose S4x128x2048 [0, 2, 1] (a0 m c) transposes_S4x2048x128_S4x128x2048_0_2_1) bitsLt_bf16_f32 := by
    dsimp only [V, hostOps0]; after_results
  rw [e]
  show transpose S4x128x2048 [0, 2, 1] (a0 m c) transposes_S4x2048x128_S4x128x2048_0_2_1 (ix3 n k i) = _
  exact transpose_apply _ _ _ _ (ix3 n i k) fun b => by match b with | ⟨0, _⟩ => rfl | ⟨1, _⟩ => rfl | ⟨2, _⟩ => rfl

/-- The first layer's weights side by side. -/
theorem V_w1 : V m c main_v3 = truncf (F := Ideal) .bf16 (concatenate S128x256 1 [⟨S128x128, a2 m c⟩, ⟨S128x128, a4 m c⟩] concatenates_S128x128_S128x128_S128x256_d1) bitsLt_bf16_f32 := by
  dsimp only [V, hostOps0]; after_results

/-- The second layer's weights side by side. -/
theorem V_w2 : V m c main_v5 = truncf (F := Ideal) .bf16 (concatenate S64x256 1 [⟨S64x128, a5 m c⟩, ⟨S64x128, a7 m c⟩] concatenates_S64x128_S64x128_S64x256_d1) bitsLt_bf16_f32 := by
  dsimp only [V, hostOps0]; after_results

/-- The first layer's weights, the left half. -/
theorem V_w1_left (o k : Fin 128) : V m c main_v3 (ix2 o ⟨k.val, by omega⟩) = a2 m c (ix2 o k) := by
  rw [V_w1]
  exact concatenate_pair_apply_left (t := S128x256) (s₁ := S128x128) (s₂ := S128x128) 1 (a2 m c) (a4 m c) concatenates_S128x128_S128x128_S128x256_d1 _ rfl (ix2 o k)
    fun d => by match d with | ⟨0, _⟩ => rfl | ⟨1, _⟩ => rfl

/-- The first layer's weights, the right half. -/
theorem V_w1_right (o k : Fin 128) : V m c main_v3 (ix2 o ⟨128 + k.val, by omega⟩) = a4 m c (ix2 o k) := by
  rw [V_w1]
  exact concatenate_pair_apply_right (t := S128x256) (s₁ := S128x128) (s₂ := S128x128) 1 (a2 m c) (a4 m c) concatenates_S128x128_S128x128_S128x256_d1 _ rfl rfl (ix2 o k)
    (fun d hd => by match d with | ⟨0, _⟩ => rfl | ⟨1, _⟩ => exact absurd rfl hd) (by show k.val + 128 = 128 + k.val; omega)

/-- The second layer's weights, the left half. -/
theorem V_w2_left (o : Fin 64) (k : Fin 128) : V m c main_v5 (ix2 o ⟨k.val, by omega⟩) = a5 m c (ix2 o k) := by
  rw [V_w2]
  exact concatenate_pair_apply_left (t := S64x256) (s₁ := S64x128) (s₂ := S64x128) 1 (a5 m c) (a7 m c) concatenates_S64x128_S64x128_S64x256_d1 _ rfl (ix2 o k)
    fun d => by match d with | ⟨0, _⟩ => rfl | ⟨1, _⟩ => rfl

/-- The second layer's weights, the right half. -/
theorem V_w2_right (o : Fin 64) (k : Fin 128) : V m c main_v5 (ix2 o ⟨128 + k.val, by omega⟩) = a7 m c (ix2 o k) := by
  rw [V_w2]
  exact concatenate_pair_apply_right (t := S64x256) (s₁ := S64x128) (s₂ := S64x128) 1 (a5 m c) (a7 m c) concatenates_S64x128_S64x128_S64x256_d1 _ rfl rfl (ix2 o k)
    (fun d hd => by match d with | ⟨0, _⟩ => rfl | ⟨1, _⟩ => exact absurd rfl hd) (by show k.val + 128 = 128 + k.val; omega)

/-- The first layer's bias, as a column. -/
theorem V_b1 (o : Fin 128) : V m c main_v6 (ix2 o 0) = a3 m c (ix1 o) := by
  have e : V m c main_v6 = shapeCast S128x1 (a3 m c) shapeCasts_S128_S128x1 := by
    dsimp only [V, hostOps0]; after_results; rfl
  rw [e]
  exact shapeCast_apply (a3 m c) _ _ (ix1 o) (by rw [Shape.rowMajor_val_one, Shape.rowMajor_val_two]; show o.val = o.val * 1 + 0; omega)

/-- The second layer's bias, as a row. -/
theorem V_b2 (o : Fin 64) : V m c main_v7 (ix2 0 o) = a6 m c (ix1 o) := by
  have e : V m c main_v7 = shapeCast S1x64 (a6 m c) shapeCasts_S64_S1x64 := by
    dsimp only [V, hostOps0]; after_results; rfl
  rw [e]
  exact shapeCast_apply (a6 m c) _ _ (ix1 o) (by rw [Shape.rowMajor_val_one, Shape.rowMajor_val_two]; show o.val = 0 * 64 + o.val; omega)

/-! ## The blocks at a grid point -/

/-- Where each window's block sits at a point: the two batched inputs and the two outputs at the point's graph, the rest whole. -/
theorem idx_facts : ∀ t : Fin cfg0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0 ∧ win0_6.index t 2 = 0)
    ∧ (win0_7.index t 0 = t.val ∧ win0_7.index t 1 = 0 ∧ win0_7.index t 2 = 0) :=
  (by decide +kernel : ∀ t : Fin grid0.N,
    (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0 ∧ win0_6.index t 2 = 0)
    ∧ (win0_7.index t 0 = t.val ∧ win0_7.index t 1 = 0 ∧ win0_7.index t 2 = 0))

/-- The grid point of graph `n`. -/
abbrev pt (n : Fin 4) : Fin cfg0.N := ⟨n.val, by rw [show cfg0.N = 4 from N_0]; exact n.isLt⟩

/-- The adjacency block of graph `n`. -/
theorem blk0 (n : Fin 4) (i j : Fin 2048) : iblk m c 0 (pt n) (ix3 0 i j) = a1 m c (ix3 n i j) := by
  obtain ⟨⟨h0, h1, h2⟩, -⟩ := idx_facts (pt n)
  unfold iblk
  rw [View.read_apply]
  show V m c main_arg1 _ = _
  rw [V_main_arg1]
  refine congrArg (a1 m c) (funext fun a => Fin.ext ?_)
  match a with
  | ⟨0, _⟩ => show win0_0.index (pt n) 0 * 1 + 1 * 0 = n.val; rw [h0]; show n.val * 1 + 1 * 0 = n.val; omega
  | ⟨1, _⟩ => show win0_0.index (pt n) 1 * 2048 + 1 * i.val = i.val; rw [h1]; omega
  | ⟨2, _⟩ => show win0_0.index (pt n) 2 * 2048 + 1 * j.val = j.val; rw [h2]; omega

/-- The feature block of graph `n`, transposed. -/
theorem blk1 (n : Fin 4) (k : Fin 128) (i : Fin 2048) : iblk m c 1 (pt n) (ix3 0 k i) = a0 m c (ix3 n i k) := by
  obtain ⟨-, ⟨h0, h1, h2⟩, -⟩ := idx_facts (pt n)
  rw [← V_feat m c n k i]
  unfold iblk
  rw [View.read_apply]
  show V m c main_v1 _ = V m c main_v1 _
  refine congrArg (V m c main_v1) (funext fun a => Fin.ext ?_)
  match a with
  | ⟨0, _⟩ => show win0_1.index (pt n) 0 * 1 + 1 * 0 = n.val; rw [h0]; show n.val * 1 + 1 * 0 = n.val; omega
  | ⟨1, _⟩ => show win0_1.index (pt n) 1 * 128 + 1 * k.val = k.val; rw [h1]; omega
  | ⟨2, _⟩ => show win0_1.index (pt n) 2 * 2048 + 1 * i.val = i.val; rw [h2]; omega

/-- The first layer's weights, whole at every point. -/
theorem blk2 (t : Fin cfg0.N) (o : Fin 128) (k : Fin 256) : iblk m c 2 t (ix2 o k) = V m c main_v3 (ix2 o k) := by
  obtain ⟨-, -, ⟨h0, h1⟩, -⟩ := idx_facts t
  unfold iblk
  rw [View.read_apply]
  show V m c main_v3 _ = V m c main_v3 _
  refine congrArg (V m c main_v3) (funext fun a => Fin.ext ?_)
  match a with
  | ⟨0, _⟩ => show win0_2.index t 0 * 128 + 1 * o.val = o.val; rw [h0]; omega
  | ⟨1, _⟩ => show win0_2.index t 1 * 256 + 1 * k.val = k.val; rw [h1]; omega

/-- The first layer's bias, whole at every point. -/
theorem blk3 (t : Fin cfg0.N) (o : Fin 128) : iblk m c 3 t (ix2 o 0) = a3 m c (ix1 o) := by
  obtain ⟨-, -, -, ⟨h0, h1⟩, -⟩ := idx_facts t
  rw [← V_b1]
  unfold iblk
  rw [View.read_apply]
  show V m c main_v6 _ = V m c main_v6 _
  refine congrArg (V m c main_v6) (funext fun a => Fin.ext ?_)
  match a with
  | ⟨0, _⟩ => show win0_3.index t 0 * 128 + 1 * o.val = o.val; rw [h0]; omega
  | ⟨1, _⟩ => show win0_3.index t 1 * 1 + 1 * 0 = 0; rw [h1]

/-- The second layer's weights, whole at every point. -/
theorem blk4 (t : Fin cfg0.N) (o : Fin 64) (k : Fin 256) : iblk m c 4 t (ix2 o k) = V m c main_v5 (ix2 o k) := by
  obtain ⟨-, -, -, -, ⟨h0, h1⟩, -⟩ := idx_facts t
  unfold iblk
  rw [View.read_apply]
  show V m c main_v5 _ = V m c main_v5 _
  refine congrArg (V m c main_v5) (funext fun a => Fin.ext ?_)
  match a with
  | ⟨0, _⟩ => show win0_4.index t 0 * 64 + 1 * o.val = o.val; rw [h0]; omega
  | ⟨1, _⟩ => show win0_4.index t 1 * 256 + 1 * k.val = k.val; rw [h1]; omega

/-- The second layer's bias, whole at every point. -/
theorem blk5 (t : Fin cfg0.N) (o : Fin 64) : iblk m c 5 t (ix2 0 o) = a6 m c (ix1 o) := by
  obtain ⟨-, -, -, -, -, ⟨h0, h1⟩, -⟩ := idx_facts t
  rw [← V_b2]
  unfold iblk
  rw [View.read_apply]
  show V m c main_v7 _ = V m c main_v7 _
  refine congrArg (V m c main_v7) (funext fun a => Fin.ext ?_)
  match a with
  | ⟨0, _⟩ => show win0_5.index t 0 * 1 + 1 * 0 = 0; rw [h0]
  | ⟨1, _⟩ => show win0_5.index t 1 * 64 + 1 * o.val = o.val; rw [h1]; omega

/-! ## The two results -/

/-- The class scores the body forms at the point of graph `n`. -/
theorem pay1_blk (n : Fin 4) (j : Fin 2048) (o : Fin 64) :
    k0_pay1 (k0_pay6 (iblk m c 0 (pt n)) (iblk m c 1 (pt n)) (iblk m c 2 (pt n)) (iblk m c 3 (pt n)))
      (k0_pay7 (iblk m c 0 (pt n)) (iblk m c 1 (pt n)) (iblk m c 2 (pt n)) (iblk m c 3 (pt n))) (iblk m c 4 (pt n)) (iblk m c 5 (pt n)) (ix2 j o)
      = scores m c n j o := by
  refine (pay1_apply (iblk m c 0 (pt n)) (iblk m c 1 (pt n)) (iblk m c 2 (pt n)) (iblk m c 3 (pt n)) (iblk m c 4 (pt n)) (iblk m c 5 (pt n))
    (X := fun i k => a0 m c (ix3 n i k)) (W1l := fun o k => a2 m c (ix2 o k)) (W1r := fun o k => a4 m c (ix2 o k)) (b1 := fun o => a3 m c (ix1 o))
    (W2l := fun o k => a5 m c (ix2 o k)) (W2r := fun o k => a7 m c (ix2 o k)) (b2 := fun o => a6 m c (ix1 o))
    (fun k i => blk1 m c n k i) (fun o k => (blk2 m c (pt n) o _).trans (V_w1_left m c o k)) (fun o k => (blk2 m c (pt n) o _).trans (V_w1_right m c o k))
    (fun o => blk3 m c (pt n) o) (fun o k => (blk4 m c (pt n) o _).trans (V_w2_left m c o k)) (fun o k => (blk4 m c (pt n) o _).trans (V_w2_right m c o k))
    (fun o => blk5 m c (pt n) o) j o).trans ?_
  have hM : mask (iblk m c 0 (pt n)) = Sage.maskOf (a1 m c) n := funext fun i => funext fun j => congrArg Sage.edge (blk0 m c n i j)
  rw [hM]
  rfl

/-- No offset on any axis, for the two-axis rectangles. -/
theorem hz2 : (![0, 0] : Fin 2 → Nat) = fun _ => 0 := funext fun a => by fin_cases a <;> rfl
/-- No offset on any axis, for the three-axis rectangles. -/
theorem hz3 : (![0, 0, 0] : Fin 3 → Nat) = fun _ => 0 := funext fun a => by fin_cases a <;> rfl

/-- What the body leaves for the log-softmax, at an index of the block. -/
theorem out6_eq (P0 : Vec Ideal S1x2048x2048 .i32) (P1 : Vec Ideal S1x128x2048 .bf16) (P2 : Vec Ideal S128x256 .bf16)
    (P3 : Vec Ideal S128x1 .f32) (P4 : Vec Ideal S64x256 .bf16) (P5 : Vec Ideal S1x64 .f32) (y : S1x2048x64.Idx) :
    out0_6 P0 P1 P2 P3 P4 P5 y = E6 P0 P1 P2 P3 P4 P5 y := by
  rw [← canon6_eq]
  unfold_out out0_6
  rw [View.ld_unit_zero (S := S1x2048x2048) hz3, View.ld_unit_zero (S := S1x128x2048) hz3, View.ld_unit_zero (S := S128x256) hz2,
    View.ld_unit_zero (S := S128x1) hz2, View.ld_unit_zero (S := S64x256) hz2, View.ld_unit_zero (S := S1x64) hz2]

/-- What the body leaves for the class scores, at an index of the block. -/
theorem out7_eq (P0 : Vec Ideal S1x2048x2048 .i32) (P1 : Vec Ideal S1x128x2048 .bf16) (P2 : Vec Ideal S128x256 .bf16)
    (P3 : Vec Ideal S128x1 .f32) (P4 : Vec Ideal S64x256 .bf16) (P5 : Vec Ideal S1x64 .f32) (y : S1x2048x64.Idx) :
    out0_7 P0 P1 P2 P3 P4 P5 y = E7 P0 P1 P2 P3 P4 P5 y := by
  rw [← canon7_eq]
  unfold_out out0_7
  rw [View.ld_unit_zero (S := S1x2048x2048) hz3, View.ld_unit_zero (S := S1x128x2048) hz3, View.ld_unit_zero (S := S128x256) hz2,
    View.ld_unit_zero (S := S128x1) hz2, View.ld_unit_zero (S := S64x256) hz2, View.ld_unit_zero (S := S1x64) hz2]

/-- Block index `(0, j, o)` reads the body's value at `(j, o)`. -/
theorem at_jo (j : Fin 2048) (o : Fin 64) : ix7_0 (ix3 0 j o) = ix2 j o := funext fun a => by match a with | ⟨0, _⟩ => rfl | ⟨1, _⟩ => rfl

/-- Block index `(0, j, o)` reads a row's value at `j`. -/
theorem at_j (j : Fin 2048) (o : Fin 64) : ix6_1 (ix3 0 j o) = ix1 j := funext fun a => by match a with | ⟨0, _⟩ => rfl

/-- The log-softmax the body leaves, for any class scores `z` it has formed. -/
theorem E6_apply (P0 : Vec Ideal S1x2048x2048 .i32) (P1 : Vec Ideal S1x128x2048 .bf16) (P2 : Vec Ideal S128x256 .bf16)
    (P3 : Vec Ideal S128x1 .f32) (P4 : Vec Ideal S64x256 .bf16) (P5 : Vec Ideal S1x64 .f32) (z : Fin 2048 → Fin 64 → EReal)
    (hZ : ∀ j o, k0_pay1 (k0_pay6 P0 P1 P2 P3) (k0_pay7 P0 P1 P2 P3) P4 P5 (ix2 j o) = z j o) (j : Fin 2048) (o : Fin 64) :
    E6 P0 P1 P2 P3 P4 P5 (ix3 0 j o) = z j o - (Ideal.log (∑ k, Ideal.exp (z j k - Sage.top (z j))) + Sage.top (z j)) := by
  have e0 : ix6_0 (ix3 0 j o) = ix2 j o := at_jo j o
  have e2 : ix6_2 (ix3 0 j o) = ix1 j := at_j j o
  rw [← rowSum_apply _ z hZ j, ← rowMax_apply _ z hZ j, ← hZ j o, ← e0, ← e2]
  rfl

/-- The class scores the body leaves. -/
theorem E7_apply (P0 : Vec Ideal S1x2048x2048 .i32) (P1 : Vec Ideal S1x128x2048 .bf16) (P2 : Vec Ideal S128x256 .bf16)
    (P3 : Vec Ideal S128x1 .f32) (P4 : Vec Ideal S64x256 .bf16) (P5 : Vec Ideal S1x64 .f32) (j : Fin 2048) (o : Fin 64) :
    E7 P0 P1 P2 P3 P4 P5 (ix3 0 j o) = k0_pay1 (k0_pay6 P0 P1 P2 P3) (k0_pay7 P0 P1 P2 P3) P4 P5 (ix2 j o) := by
  rw [← at_jo j o]

/-- Element `(n, j, o)` of the log-softmax array lies in the block point `n` writes. -/
theorem emb6 (n : Fin 4) (j : Fin 2048) (o : Fin 64) : ((cfg0.win 6).blk (pt n)).view.emb (ix3 0 j o) = (ix3 n j o : S4x2048x64.Idx) := by
  obtain ⟨-, -, -, -, -, -, ⟨h0, h1, h2⟩, -⟩ := idx_facts (pt n)
  refine funext fun a => Fin.ext ?_
  match a with
  | ⟨0, _⟩ => show win0_6.index (pt n) 0 * 1 + 1 * 0 = n.val; rw [h0]; show n.val * 1 + 1 * 0 = n.val; omega
  | ⟨1, _⟩ => show win0_6.index (pt n) 1 * 2048 + 1 * j.val = j.val; rw [h1]; omega
  | ⟨2, _⟩ => show win0_6.index (pt n) 2 * 64 + 1 * o.val = o.val; rw [h2]; omega

/-- Element `(n, j, o)` of the class-score array lies in the block point `n` writes. -/
theorem emb7 (n : Fin 4) (j : Fin 2048) (o : Fin 64) : ((cfg0.win 7).blk (pt n)).view.emb (ix3 0 j o) = (ix3 n j o : S4x2048x64.Idx) := by
  obtain ⟨-, -, -, -, -, -, -, ⟨h0, h1, h2⟩⟩ := idx_facts (pt n)
  refine funext fun a => Fin.ext ?_
  match a with
  | ⟨0, _⟩ => show win0_7.index (pt n) 0 * 1 + 1 * 0 = n.val; rw [h0]; show n.val * 1 + 1 * 0 = n.val; omega
  | ⟨1, _⟩ => show win0_7.index (pt n) 1 * 2048 + 1 * j.val = j.val; rw [h1]; omega
  | ⟨2, _⟩ => show win0_7.index (pt n) 2 * 64 + 1 * o.val = o.val; rw [h2]; omega

/-- THE CLASS SCORES: element `(n, j, o)` of the kernel's second result. -/
theorem arr7 (n : Fin 4) (j : Fin 2048) (o : Fin 64) :
    (dats m 0 c).arrAt 7 cfg0.N (ix3 n j o : S4x2048x64.Idx) = scores m c n j o := by
  have b := congrFun (blocks7 m c (pt n) (flush0_7 (pt n))) (ix3 0 j o)
  rw [flushed7] at b
  have b' : (dats m 0 c).arrAt 7 cfg0.N (((cfg0.win 7).blk (pt n)).view.emb (ix3 0 j o))
      = out0_7 (iblk m c 0 (pt n)) (iblk m c 1 (pt n)) (iblk m c 2 (pt n)) (iblk m c 3 (pt n)) (iblk m c 4 (pt n)) (iblk m c 5 (pt n)) (ix3 0 j o) := b
  rw [emb7, out7_eq, E7_apply] at b'
  exact b'.trans (pay1_blk m c n j o)

/-- THE LOG-SOFTMAX: element `(n, j, o)` of the kernel's first result, the logarithm and the largest score taken off in one step. -/
theorem arr6 (n : Fin 4) (j : Fin 2048) (o : Fin 64) :
    (dats m 0 c).arrAt 6 cfg0.N (ix3 n j o : S4x2048x64.Idx)
      = scores m c n j o - (Ideal.log (∑ k, Ideal.exp (scores m c n j k - Sage.top (scores m c n j))) + Sage.top (scores m c n j)) := by
  have b := congrFun (blocks6 m c (pt n) (flush0_6 (pt n))) (ix3 0 j o)
  rw [flushed6] at b
  have b' : (dats m 0 c).arrAt 6 cfg0.N (((cfg0.win 6).blk (pt n)).view.emb (ix3 0 j o))
      = out0_6 (iblk m c 0 (pt n)) (iblk m c 1 (pt n)) (iblk m c 2 (pt n)) (iblk m c 3 (pt n)) (iblk m c 4 (pt n)) (iblk m c 5 (pt n)) (ix3 0 j o) := b
  rw [emb6, out6_eq, E6_apply _ _ _ _ _ _ (scores m c n) (pay1_blk m c n)] at b'
  exact b'

end Cert.KernelIdeal.Arrays

end
-- ==== Proof.RefValue.lean ====
/-
  The reference's two result arrays, element by element: its operations in program order, each read at an index, down
  to the class scores and their log-softmax.
-/
module

public import proofs.«01_k».proof.Proof.Spec
public import proofs.«01_k».proof.Proof.Gen.ReferenceIdeal.Read

@[expose] public section

set_option maxRecDepth 16384

noncomputable section

namespace Cert.ReferenceIdeal.Arrays

open Cert.ReferenceIdeal Cert.ReferenceIdeal.Gen Cert.ReferenceIdeal.Read
open Idealize.ShloMosaic Idealize.ShloMosaic.ValueIdx
open scoped BigOperators

variable (x0 : (⟨S4x2048x128, .f32⟩ : BufTy).Contents (Elt Ideal)) (x1 : (⟨S4x2048x2048, .i32⟩ : BufTy).Contents (Elt Ideal))
  (x2 : (⟨S128x128, .f32⟩ : BufTy).Contents (Elt Ideal)) (x3 : (⟨S128, .f32⟩ : BufTy).Contents (Elt Ideal)) (x4 : (⟨S128x128, .f32⟩ : BufTy).Contents (Elt Ideal))
  (x5 : (⟨S64x128, .f32⟩ : BufTy).Contents (Elt Ideal)) (x6 : (⟨S64, .f32⟩ : BufTy).Contents (Elt Ideal)) (x7 : (⟨S64x128, .f32⟩ : BufTy).Contents (Elt Ideal))

/-- The word of `1.0` is one. -/
theorem word_one : Ideal.ofBits .f32 0x3F800000#32 = 1 := by
  simp [Ideal.ofBits, Ideal.ieee, -EReal.coe_mul]; norm_num

/-- The word of `-∞` is the lower infinity. -/
theorem word_bot : Ideal.ofBits .f32 0xFF800000#32 = ⊥ := by
  simp [Ideal.ofBits, Ideal.ieee]

/-- The mask entry the reference forms of a word. -/
theorem word_edge (a : BitVec 32) : (FloatOps.uitofp .f32 (IntOp.cmpi .ne a 0#32) : Ideal .f32) = Sage.edge a := by
  unfold Sage.edge
  by_cases h : a = 0#32
  · subst h
    rw [if_pos rfl]
    show (((IntOp.cmpi .ne 0#32 0#32 : BitVec 1).toNat : ℝ) : EReal) = 0
    rw [show (IntOp.cmpi .ne 0#32 0#32 : BitVec 1).toNat = 0 by decide]; norm_num
  · rw [if_neg h]
    have e : IntOp.cmpi .ne a 0#32 = 1#1 := by
      show BitVec.ofBool (a != 0#32) = 1#1
      rw [show (a != 0#32) = true from bne_iff_ne.2 h]; rfl
    rw [e]
    show (((1#1 : BitVec 1).toNat : ℝ) : EReal) = 1
    norm_num

/-- The choice the reference makes of a sum `s` over the edges and a degree `d`. -/
theorem choose_mean (d s : Ideal .f32) :
    Scalar.select (FloatOps.cmpf (F := Ideal) (φ := .f32) .ogt d (FloatOps.ofBits .f32 0x00000000#32))
      (FloatOps.hostDivf (F := Ideal) (φ := .f32) s (FloatOps.maximumf (F := Ideal) (φ := .f32) d (FloatOps.ofBits .f32 0x3F800000#32)))
      (FloatOps.ofBits .f32 0x00000000#32 : Ideal .f32)
      = if (0 : EReal) < d then Ideal.div s (max d (1 : EReal)) else (0 : EReal) := by
  show Scalar.select (Ideal.cmp .ogt d (Ideal.ofBits .f32 0x00000000#32)) (Ideal.div s (max d (Ideal.ofBits .f32 0x3F800000#32)))
    (Ideal.ofBits .f32 0x00000000#32) = _
  rw [Ideal.ofBits_zero_f32, word_one]
  by_cases h : (0 : EReal) < d
  · simp [Ideal.cmp, h, Scalar.select]
  · simp [Ideal.cmp, h, Scalar.select]

/-- The host's maximum over the last axis, from the lower infinity, is the largest entry of the row. -/
theorem reduce_top (Z : FVec Ideal S4x2048x64 .f32) (v : FVec Ideal S_ .f32) (hv : v (Shape.Idx.first h_S_) = (⊥ : EReal))
    (z : Fin 4 → Fin 2048 → Fin 64 → EReal) (hZ : ∀ n j o, Z (ix3 n j o) = z n j o) (n : Fin 4) (j : Fin 2048) :
    Host.reduce (FloatOps.maximumf (F := Ideal) (φ := .f32)) Z v reducesTo_S4x2048x64_S4x2048_d2 h_S_ (ix2 n j) = Sage.top (z n j) := by
  have hr : S4x2048x64.Reduces [2] S4x2048 := by decide
  rw [Host.reduce_eq_fold_single (FloatOps.maximumf (F := Ideal) (φ := .f32)) Z v reducesTo_S4x2048x64_S4x2048_d2 hr h_S_ (ix2 n j), hv]
  have e : Z ∘ hr.lift (ix2 n j) = z n j := funext fun o : Fin 64 => by
    rw [← hZ n j o]
    exact congrArg Z (funext fun a => by match a with | ⟨0, _⟩ => rfl | ⟨1, _⟩ => rfl | ⟨2, _⟩ => rfl)
  rw [e]
  rfl

/-- The mask. -/
theorem mask_apply (n : Fin 4) (i j : Fin 2048) : val_main_v2 (F := Ideal) x1 (ix3 n i j) = Sage.maskOf x1 n i j := by
  rw [val_main_v2_apply, val_main_v1_apply, val_main_v0_apply, val_main_c_apply]
  exact word_edge _

/-- The degree of node `j`. -/
theorem deg_apply (n : Fin 4) (j : Fin 2048) : val_main_v3 (F := Ideal) x1 (ix2 n j) = Sage.deg (Sage.maskOf x1 n) j := by
  rw [val_main_v3_apply, val_main_cst_apply]
  show Ideal.ofBits .f32 0x00000000#32 + _ = _
  rw [Ideal.ofBits_zero_f32, zero_add]
  refine Finset.sum_congr rfl fun i _ => ?_
  rw [← mask_apply]
  exact congrArg _ (funext fun a => by match a with | ⟨0, _⟩ => rfl | ⟨1, _⟩ => rfl | ⟨2, _⟩ => rfl)

/-- The mean of the features over the edges into node `j`. -/
theorem mean1_apply (n : Fin 4) (j : Fin 2048) (k : Fin 128) :
    val_main_v12 (F := Ideal) x0 x1 (ix3 n j k) = Sage.mean (Sage.maskOf x1 n) (fun i k => x0 (ix3 n i k)) j k := by
  have hd : val_main_v3 (F := Ideal) x1 (idx_main_v5 (idx_main_v10 (ix3 n j k))) = Sage.deg (Sage.maskOf x1 n) j := by
    rw [← deg_apply]
    exact congrArg _ (funext fun a => by match a with | ⟨0, _⟩ => rfl | ⟨1, _⟩ => rfl)
  have hs : val_main_v4 (F := Ideal) x0 x1 (ix3 n j k) = ∑ i, Sage.maskOf x1 n i j * x0 (ix3 n i k) := by
    rw [val_main_v4_apply]
    refine Finset.sum_congr rfl fun i _ => ?_
    rw [← mask_apply]
    exact congrArg₂ (· * ·) (congrArg _ (funext fun a => by match a with | ⟨0, _⟩ => rfl | ⟨1, _⟩ => rfl | ⟨2, _⟩ => rfl))
      (congrArg x0 (funext fun a => by match a with | ⟨0, _⟩ => rfl | ⟨1, _⟩ => rfl | ⟨2, _⟩ => rfl))
  rw [val_main_v12_apply, val_main_call0_v1_apply, val_main_v7_apply, val_main_v6_apply, val_main_cst_0_apply, val_main_v11_apply, val_main_v10_apply,
    val_main_v9_apply, val_main_v8_apply, val_main_cst_1_apply, val_main_call0_v2_apply, val_main_call0_v0_apply, val_main_cst_2_apply, val_main_v5_apply, hd, hs]
  exact choose_mean _ _

/-- The first layer after its ReLU. -/
theorem hidden_apply (n : Fin 4) (j : Fin 2048) (o : Fin 128) :
    val_main_v21 (F := Ideal) x0 x1 x2 x3 x4 (ix3 n j o) = Sage.hiddenOf x0 x1 x2 x3 x4 n j o := by
  have hl : val_main_v14 (F := Ideal) x0 x1 x2 (ix3 n j o)
      = ∑ k, Sage.mean (Sage.maskOf x1 n) (fun i k => x0 (ix3 n i k)) j k * x2 (ix2 o k) := by
    rw [val_main_v14_apply]
    refine Finset.sum_congr rfl fun k _ => ?_
    rw [← mean1_apply, val_main_v13_apply]
    exact congrArg₂ (· * ·) (congrArg _ (funext fun a => by match a with | ⟨0, _⟩ => rfl | ⟨1, _⟩ => rfl | ⟨2, _⟩ => rfl))
      (congrArg x2 (funext fun a => by match a with | ⟨0, _⟩ => rfl | ⟨1, _⟩ => rfl))
  have hr : val_main_v19 (F := Ideal) x0 x4 (ix3 n j o) = ∑ k, x0 (ix3 n j k) * x4 (ix2 o k) := by
    rw [val_main_v19_apply]
    refine Finset.sum_congr rfl fun k _ => ?_
    rw [val_main_v18_apply]
    exact congrArg₂ (· * ·) (congrArg x0 (funext fun a => by match a with | ⟨0, _⟩ => rfl | ⟨1, _⟩ => rfl | ⟨2, _⟩ => rfl))
      (congrArg x4 (funext fun a => by match a with | ⟨0, _⟩ => rfl | ⟨1, _⟩ => rfl))
  have hb : val_main_v16 (F := Ideal) x3 (ix3 n j o) = x3 (ix1 o) := by
    rw [val_main_v16_apply, val_main_v15_apply]
    exact congrArg x3 (funext fun a => by match a with | ⟨0, _⟩ => rfl)
  rw [val_main_v21_apply, val_main_v20_apply, val_main_v17_apply, val_main_call1_v0_apply, val_main_call1_cst_apply, hl, hr, hb]
  exact congrArg (max _) Ideal.ofBits_zero_f32

/-- The mean of the hidden features over the edges into node `j`. -/
theorem mean2_apply (n : Fin 4) (j : Fin 2048) (k : Fin 128) :
    val_main_v30 (F := Ideal) x0 x1 x2 x3 x4 (ix3 n j k) = Sage.mean (Sage.maskOf x1 n) (Sage.hiddenOf x0 x1 x2 x3 x4 n) j k := by
  have hd : val_main_v3 (F := Ideal) x1 (idx_main_v23 (idx_main_v28 (ix3 n j k))) = Sage.deg (Sage.maskOf x1 n) j := by
    rw [← deg_apply]
    exact congrArg _ (funext fun a => by match a with | ⟨0, _⟩ => rfl | ⟨1, _⟩ => rfl)
  have hs : val_main_v22 (F := Ideal) x0 x1 x2 x3 x4 (ix3 n j k) = ∑ i, Sage.maskOf x1 n i j * Sage.hiddenOf x0 x1 x2 x3 x4 n i k := by
    rw [val_main_v22_apply]
    refine Finset.sum_congr rfl fun i _ => ?_
    rw [← mask_apply, ← hidden_apply]
    exact congrArg₂ (· * ·) (congrArg _ (funext fun a => by match a with | ⟨0, _⟩ => rfl | ⟨1, _⟩ => rfl | ⟨2, _⟩ => rfl))
      (congrArg _ (funext fun a => by match a with | ⟨0, _⟩ => rfl | ⟨1, _⟩ => rfl | ⟨2, _⟩ => rfl))
  rw [val_main_v30_apply, val_main_call2_v1_apply, val_main_v25_apply, val_main_v24_apply, val_main_cst_3_apply, val_main_v29_apply, val_main_v28_apply,
    val_main_v27_apply, val_main_v26_apply, val_main_cst_4_apply, val_main_call2_v2_apply, val_main_call2_v0_apply, val_main_cst_5_apply, val_main_v23_apply, hd, hs]
  exact choose_mean _ _

/-- THE CLASS SCORES: element `(n, j, o)` of the reference's second result. -/
theorem out_apply (n : Fin 4) (j : Fin 2048) (o : Fin 64) :
    val_main_v38 (F := Ideal) x0 x1 x2 x3 x4 x5 x6 x7 (ix3 n j o) = Sage.outOf x0 x1 x2 x3 x4 x5 x6 x7 n j o := by
  have hl : val_main_v32 (F := Ideal) x0 x1 x2 x3 x4 x5 (ix3 n j o)
      = ∑ k, Sage.mean (Sage.maskOf x1 n) (Sage.hiddenOf x0 x1 x2 x3 x4 n) j k * x5 (ix2 o k) := by
    rw [val_main_v32_apply]
    refine Finset.sum_congr rfl fun k _ => ?_
    rw [← mean2_apply, val_main_v31_apply]
    exact congrArg₂ (· * ·) (congrArg _ (funext fun a => by match a with | ⟨0, _⟩ => rfl | ⟨1, _⟩ => rfl | ⟨2, _⟩ => rfl))
      (congrArg x5 (funext fun a => by match a with | ⟨0, _⟩ => rfl | ⟨1, _⟩ => rfl))
  have hr : val_main_v37 (F := Ideal) x0 x1 x2 x3 x4 x7 (ix3 n j o) = ∑ k, Sage.hiddenOf x0 x1 x2 x3 x4 n j k * x7 (ix2 o k) := by
    rw [val_main_v37_apply]
    refine Finset.sum_congr rfl fun k _ => ?_
    rw [← hidden_apply, val_main_v36_apply]
    exact congrArg₂ (· * ·) (congrArg _ (funext fun a => by match a with | ⟨0, _⟩ => rfl | ⟨1, _⟩ => rfl | ⟨2, _⟩ => rfl))
      (congrArg x7 (funext fun a => by match a with | ⟨0, _⟩ => rfl | ⟨1, _⟩ => rfl))
  have hb : val_main_v34 (F := Ideal) x6 (ix3 n j o) = x6 (ix1 o) := by
    rw [val_main_v34_apply, val_main_v33_apply]
    exact congrArg x6 (funext fun a => by match a with | ⟨0, _⟩ => rfl)
  rw [val_main_v38_apply, val_main_v35_apply, hl, hr, hb]
  rfl

/-- The largest class score of node `j`. -/
theorem top_apply (n : Fin 4) (j : Fin 2048) :
    val_main_call3_v2 (F := Ideal) x0 x1 x2 x3 x4 x5 x6 x7 (ix2 n j) = Sage.top (Sage.outOf x0 x1 x2 x3 x4 x5 x6 x7 n j) := by
  have h0 : val_main_call3_v0 (F := Ideal) x0 x1 x2 x3 x4 x5 x6 x7 (ix2 n j) = Sage.top (Sage.outOf x0 x1 x2 x3 x4 x5 x6 x7 n j) := by
    unfold val_main_call3_v0
    exact reduce_top _ _ word_bot _ (out_apply x0 x1 x2 x3 x4 x5 x6 x7) n j
  rw [val_main_call3_v2_apply, val_main_call3_v1_apply, val_main_call3_cst_0_apply, h0]
  exact (congrArg (max · _) word_bot).trans (Sage.bot_max_top _)

/-- A class score with the largest taken off. -/
theorem shifted_apply (n : Fin 4) (j : Fin 2048) (o : Fin 64) :
    val_main_call3_v5 (F := Ideal) x0 x1 x2 x3 x4 x5 x6 x7 (ix3 n j o)
      = Sage.outOf x0 x1 x2 x3 x4 x5 x6 x7 n j o - Sage.top (Sage.outOf x0 x1 x2 x3 x4 x5 x6 x7 n j) := by
  have e : idx_main_call3_v3 (idx_main_call3_v4 (ix3 n j o)) = ix2 n j := funext fun a => by match a with | ⟨0, _⟩ => rfl | ⟨1, _⟩ => rfl
  rw [val_main_call3_v5_apply, val_main_call3_v4_apply, val_main_call3_v3_apply, out_apply, e, top_apply]
  rfl

/-- The sum of the exponentials of node `j`. -/
theorem total_apply (n : Fin 4) (j : Fin 2048) :
    val_main_call3_v7 (F := Ideal) x0 x1 x2 x3 x4 x5 x6 x7 (ix2 n j)
      = ∑ k, Ideal.exp (Sage.outOf x0 x1 x2 x3 x4 x5 x6 x7 n j k - Sage.top (Sage.outOf x0 x1 x2 x3 x4 x5 x6 x7 n j)) := by
  rw [val_main_call3_v7_apply, val_main_call3_cst_1_apply]
  show Ideal.ofBits .f32 0x00000000#32 + _ = _
  rw [Ideal.ofBits_zero_f32, zero_add]
  refine Finset.sum_congr rfl fun k _ => ?_
  have e : idx_main_call3_v7 (ix2 n j) k = ix3 n j k := funext fun a => by match a with | ⟨0, _⟩ => rfl | ⟨1, _⟩ => rfl | ⟨2, _⟩ => rfl
  rw [val_main_call3_v6_apply, e, shifted_apply]
  rfl

/-- THE LOG-SOFTMAX: element `(n, j, o)` of the reference's first result. -/
theorem logp_apply (n : Fin 4) (j : Fin 2048) (o : Fin 64) :
    val_main_v39 (F := Ideal) x0 x1 x2 x3 x4 x5 x6 x7 (ix3 n j o) = Sage.logSoftmax (Sage.outOf x0 x1 x2 x3 x4 x5 x6 x7 n j) o := by
  have e : idx_main_call3_v8 (idx_main_call3_v10 (ix3 n j o)) = ix2 n j := funext fun a => by match a with | ⟨0, _⟩ => rfl | ⟨1, _⟩ => rfl
  rw [val_main_v39_apply, shifted_apply, val_main_call3_v10_apply, val_main_call3_v9_apply, val_main_call3_v8_apply, e, total_apply]
  rfl

end Cert.ReferenceIdeal.Arrays

end
-- ==== Proof.Finite.lean ====
/-
  What the precondition says: every element of every float argument is a real number.
-/
module

public import proofs.«01_k».proof.Defs
public import proofs.«01_k».proof.Proof.Spec

@[expose] public section

noncomputable section

namespace Cert.Pre_finite_args

open Idealize.ShloMosaic

/-- The precondition's shape facts. -/
instance facts : Facts where
  bcast_S_S4x2048x128 := by decide
  bcast_S_S128x128 := by decide
  bcast_S_S128 := by decide
  bcast_S_S64x128 := by decide
  bcast_S_S64 := by decide

/-- The word of `+∞` is the upper infinity. -/
theorem word_top : Ideal.ofBits .f32 0x7F800000#32 = ⊤ := by
  simp [Ideal.ofBits, Ideal.ieee]

/-- An extended real whose absolute value is below the upper infinity is a real number. -/
theorem isReal_of_abs_lt {a : EReal} (h : max a (-a) < ⊤) : Sage.IsReal a := by
  obtain ⟨h1, h2⟩ := max_lt_iff.1 h
  induction a with
  | bot => simp at h2
  | coe r => exact ⟨r, rfl⟩
  | top => simp at h1

/-- An array whose absolute values all compare below the upper infinity has real elements. -/
theorem isReal_of_finite {S : Shape} (x : FVec Ideal S .f32) (hb : S_.BroadcastsInDim S (![] : Fin 0 → Fin S.rank))
    (h : cmpf .olt (Host.absf x) (broadcastInDim S ![] hb (constant S_ .f32 0x7F800000#32)) = fun _ => 1#1) (i : S.Idx) : Sage.IsReal (x i) := by
  have h' : Ideal.cmp .olt (max (x i) (-(x i))) (Ideal.ofBits .f32 0x7F800000#32) = 1#1 := congrFun h i
  rw [word_top] at h'
  refine isReal_of_abs_lt (by_contra fun hn => ?_)
  simp only [Ideal.cmp, hn] at h'
  exact absurd h' (by decide)

variable {m : (ℓ : Loc Cert.KernelIdeal.nD Cert.KernelIdeal.τ Cert.KernelIdeal.sig) → Buf (Elt Ideal) ℓ}

open Cert.KernelIdeal Idealize.ShloMosaic.TcCoe in
/-- Under the precondition every float argument has real elements. -/
theorem isReal_args (h : Cert.Pre_KernelIdeal_finite_args m) (c : Dev nD) :
    (∀ i, Sage.IsReal (m ((c : Thread nD τ).loc main_arg0) i)) ∧ (∀ i, Sage.IsReal (m ((c : Thread nD τ).loc main_arg2) i))
    ∧ (∀ i, Sage.IsReal (m ((c : Thread nD τ).loc main_arg3) i)) ∧ (∀ i, Sage.IsReal (m ((c : Thread nD τ).loc main_arg4) i))
    ∧ (∀ i, Sage.IsReal (m ((c : Thread nD τ).loc main_arg5) i)) ∧ (∀ i, Sage.IsReal (m ((c : Thread nD τ).loc main_arg6) i))
    ∧ (∀ i, Sage.IsReal (m ((c : Thread nD τ).loc main_arg7) i)) := by
  obtain ⟨h0, h2, h3, h4, h5, h6, h7⟩ := h c
  exact ⟨isReal_of_finite _ _ h0, isReal_of_finite _ _ h2, isReal_of_finite _ _ h3, isReal_of_finite _ _ h4, isReal_of_finite _ _ h5,
    isReal_of_finite _ _ h6, isReal_of_finite _ _ h7⟩

end Cert.Pre_finite_args

end
-- ==== Proof.lean ====
/-
  The claims: the kernel, its idealization and the reference run, end with their arguments unchanged and every
  semaphore counter at zero; the idealization rewrites nothing; and over the extended reals, for finite arguments, the
  kernel's two results are the reference's.

  Proof/Spec.lean has the mathematics, Proof/KernelBlock.lean the kernel's body on one graph, Proof/KernelValue.lean
  the kernel's arrays, Proof/RefValue.lean the reference's, Proof/Finite.lean the precondition.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.KernelValue
public import proofs.«01_k».proof.Proof.RefValue
public import proofs.«01_k».proof.Proof.Finite
public import Idealize.ShloMosaic.Lib.Claim
public import Idealize.ShloMosaic.Lib.Quiescent

@[expose] public section

noncomputable section

namespace Cert.Proof

open Idealize.ShloMosaic Idealize.ShloMosaic.TcCoe Idealize.ShloMosaic.ValueIdx Idealize.SL.Sem

section Values

open Cert.KernelIdeal Cert.KernelIdeal.Gen Cert.KernelIdeal.Arrays

variable (m : (ℓ : Loc nD τ sig) → Buf (Elt Ideal) ℓ) (c : Dev nD)

/-- The kernel's class-score array is the reference's, whatever the arguments hold. -/
theorem scores_eq :
    Cert.ReferenceIdeal.Read.val_main_v38 (F := Ideal) (a0 m c) (a1 m c) (a2 m c) (a3 m c) (a4 m c) (a5 m c) (a6 m c) (a7 m c)
      = (dats m 0 c).arrAt 7 cfg0.N := by
  funext i
  obtain ⟨n, j, o, rfl⟩ : ∃ (n : Fin 4) (j : Fin 2048) (o : Fin 64), i = ix3 n j o :=
    ⟨i 0, i 1, i 2, funext fun a => by match a with | ⟨0, _⟩ => rfl | ⟨1, _⟩ => rfl | ⟨2, _⟩ => rfl⟩
  exact (Cert.ReferenceIdeal.Arrays.out_apply _ _ _ _ _ _ _ _ n j o).trans (arr7 m c n j o).symm

/-- The kernel's log-softmax array is the reference's, for finite arguments: the kernel takes the logarithm and the
    largest class score off in one step, the reference in two. -/
theorem logp_eq (hpre : Cert.Pre_KernelIdeal_finite_args m) :
    Cert.ReferenceIdeal.Read.val_main_v39 (F := Ideal) (a0 m c) (a1 m c) (a2 m c) (a3 m c) (a4 m c) (a5 m c) (a6 m c) (a7 m c)
      = (dats m 0 c).arrAt 6 cfg0.N := by
  obtain ⟨h0, h2, h3, h4, h5, h6, h7⟩ := Cert.Pre_finite_args.isReal_args hpre c
  funext i
  obtain ⟨n, j, o, rfl⟩ : ∃ (n : Fin 4) (j : Fin 2048) (o : Fin 64), i = ix3 n j o :=
    ⟨i 0, i 1, i 2, funext fun a => by match a with | ⟨0, _⟩ => rfl | ⟨1, _⟩ => rfl | ⟨2, _⟩ => rfl⟩
  refine (Cert.ReferenceIdeal.Arrays.logp_apply _ _ _ _ _ _ _ _ n j o).trans (Eq.trans ?_ (arr6 m c n j o).symm)
  exact (Sage.sub_log_add_top (fun k => (Sage.isReal_outOf _ (a1 m c) _ _ _ _ _ _ h0 h2 h3 h4 h5 h6 h7 n j k).ne_top) o).symm

end Values

/-- The reference runs and keeps its arguments; it has no semaphore, so every counter is at zero. -/
theorem reference_quiescent : Cert.quiescent_ReferenceIdeal := by
  intro m g _
  exact θ_run_mono (Cert.ReferenceIdeal.Value.run m g) fun r h =>
    ⟨fun c => (h c).2.2, sem_eq_zero_of_no_sems (by decide) r.2⟩

/-- Over the extended reals, for finite arguments, the kernel's two results are the reference's. -/
theorem results_equal : Cert.algebraic_KernelIdeal_ReferenceIdeal_pre_finite_args := by
  intro m g m' g' hpre hagree
  refine ⟨fun c => (Cert.KernelIdeal.Gen.dats m 0 c).arrAt 6 Cert.KernelIdeal.cfg0.N,
    fun c => (Cert.KernelIdeal.Gen.dats m 0 c).arrAt 7 Cert.KernelIdeal.cfg0.N, Cert.KernelIdeal.Value.run_blocks m g,
    θ_run_mono (Cert.ReferenceIdeal.Value.run m' g') fun r h c => ⟨(h c).1.trans ?_, (h c).2.1.trans ?_, (h c).2.2⟩⟩
  · obtain ⟨e0, e1, e2, e3, e4, e5, e6, e7⟩ := hagree c
    rw [Cert.ReferenceIdeal.Read.val_main_v39_eq, e0, e1, e2, e3, e4, e5, e6, e7]
    exact logp_eq m c hpre
  · obtain ⟨e0, e1, e2, e3, e4, e5, e6, e7⟩ := hagree c
    rw [Cert.ReferenceIdeal.Read.val_main_v38_eq, e0, e1, e2, e3, e4, e5, e6, e7]
    exact scores_eq m c

/-- Everything the certificate claims. -/
theorem claim : Cert.Claim :=
  ⟨Cert.Kernel.Gen.facts, Cert.KernelIdeal.Gen.facts, Cert.ReferenceIdeal.Gen.facts, Cert.Pre_finite_args.facts,
    fun m g _ => Cert.Kernel.Gen.frame m g, fun m g _ => Cert.KernelIdeal.Gen.frame m g, fun m g _ => Cert.KernelIdeal.Gen.frame m g,
    reference_quiescent, fun m g _ => reference_quiescent m g trivial, trivial, results_equal⟩

end Cert.Proof

end
